-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x6144x7168 : Shape := ⟨3, ![2, 6144, 7168]⟩
abbrev S7168x6144 : Shape := ⟨2, ![7168, 6144]⟩
abbrev S6144 : Shape := ⟨1, ![6144]⟩
abbrev S_ : Shape := ⟨0, ![]⟩

class Facts : Prop where
  bitsLt_bf16_f32 : FTy.bits .bf16 < FTy.bits .f32
  bcast_S_S2x6144x7168 : S_.BroadcastsInDim S2x6144x7168 (![] : Fin 0 → Fin S2x6144x7168.rank)
  reducesTo_S2x6144x7168_S_d0_1_2 : S2x6144x7168.ReducesTo [0, 1, 2] S_
  h_S_ : 0 < S_.numel

variable [Facts]

def fn {F : FTy → Type} [FloatOps F] (main_arg0 : FVec F S2x6144x7168 .bf16) (main_arg1 : FVec F S7168x6144 .fp8e4m3) (main_arg2 : FVec F S6144 .f32) (main_arg3 : FVec F S6144 .bf16) : IVec S_ 1 :=
  let main_v0 : FVec F S2x6144x7168 .f32 := (extf .f32 · bitsLt_bf16_f32) main_arg0
  let main_v1 : FVec F S2x6144x7168 .f32 := Host.absf main_v0
  let main_cst : FVec F S_ .f32 := constant S_ .f32 0x7F7F0000#32
  let main_v2 : FVec F S2x6144x7168 .f32 := broadcastInDim S2x6144x7168 ![] bcast_S_S2x6144x7168 main_cst
  let main_v3 : IVec S2x6144x7168 1 := cmpf .ole main_v1 main_v2
  let main_c : IVec S_ 1 := constantI S_ 1 1#1
  let main_v4 : IVec S_ 1 := (fun x v => Host.reduce IntOp.andi x v reducesTo_S2x6144x7168_S_d0_1_2 h_S_) main_v3 main_c
  main_v4
-- ==== Kernel.lean ====
abbrev S2x6144x7168 : Shape := ⟨3, ![2, 6144, 7168]⟩
abbrev S7168x6144 : Shape := ⟨2, ![7168, 6144]⟩
abbrev S6144 : Shape := ⟨1, ![6144]⟩
abbrev S12288x7168 : Shape := ⟨2, ![12288, 7168]⟩
abbrev S1x6144 : Shape := ⟨2, ![1, 6144]⟩
abbrev S12288x16x128 : Shape := ⟨3, ![12288, 16, 128]⟩
abbrev S48x1x256 : Shape := ⟨3, ![48, 1, 256]⟩
abbrev S256x7168 : Shape := ⟨2, ![256, 7168]⟩
abbrev S256x16x128 : Shape := ⟨3, ![256, 16, 128]⟩
abbrev S1x1x256 : Shape := ⟨3, ![1, 1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S7168x512 : Shape := ⟨2, ![7168, 512]⟩
abbrev S256x512 : Shape := ⟨2, ![256, 512]⟩
abbrev S1x512 : Shape := ⟨2, ![1, 512]⟩
abbrev S256x8x128 : Shape := ⟨3, ![256, 8, 128]⟩
abbrev S2048x128 : Shape := ⟨2, ![2048, 128]⟩
abbrev S256x2x128 : Shape := ⟨3, ![256, 2, 128]⟩
abbrev S256x1x128 : Shape := ⟨3, ![256, 1, 128]⟩

abbrev nBuf : Space → Nat
  | .hbm => 12
  | .vmem => 15
  | .smem => 0
  | _ => 0

abbrev bufTy : (tb : Table) → Fin (tcTables nBuf tb) → BufTy
  | .hbm, ⟨0, _⟩ => ⟨S2x6144x7168, .bf16⟩
  | .hbm, ⟨1, _⟩ => ⟨S7168x6144, .fp8e4m3⟩
  | .hbm, ⟨2, _⟩ => ⟨S6144, .f32⟩
  | .hbm, ⟨3, _⟩ => ⟨S6144, .bf16⟩
  | .hbm, ⟨4, _⟩ => ⟨S12288x7168, .bf16⟩
  | .hbm, ⟨5, _⟩ => ⟨S1x6144, .f32⟩
  | .hbm, ⟨6, _⟩ => ⟨S1x6144, .bf16⟩
  | .hbm, ⟨7, _⟩ => ⟨S12288x16x128, .bf16⟩
  | .hbm, ⟨8, _⟩ => ⟨S12288x16x128, .bf16⟩
  | .hbm, ⟨9, _⟩ => ⟨S12288x16x128, .bf16⟩
  | .hbm, ⟨10, _⟩ => ⟨S12288x7168, .fp8e4m3⟩
  | .hbm, ⟨11, _⟩ => ⟨S48x1x256, .f32⟩
  | .local _ .vmem, ⟨0, _⟩ => ⟨S256x7168, .bf16⟩
  | .local _ .vmem, ⟨1, _⟩ => ⟨S256x7168, .bf16⟩
  | .local _ .vmem, ⟨2, _⟩ => ⟨S7168x6144, .fp8e4m3⟩
  | .local _ .vmem, ⟨3, _⟩ => ⟨S1x6144, .f32⟩
  | .local _ .vmem, ⟨4, _⟩ => ⟨S1x6144, .bf16⟩
  | .local _ .vmem, ⟨5, _⟩ => ⟨S256x16x128, .bf16⟩
  | .local _ .vmem, ⟨6, _⟩ => ⟨S256x16x128, .bf16⟩
  | .local _ .vmem, ⟨7, _⟩ => ⟨S256x16x128, .bf16⟩
  | .local _ .vmem, ⟨8, _⟩ => ⟨S256x16x128, .bf16⟩
  | .local _ .vmem, ⟨9, _⟩ => ⟨S256x16x128, .bf16⟩
  | .local _ .vmem, ⟨10, _⟩ => ⟨S256x16x128, .bf16⟩
  | .local _ .vmem, ⟨11, _⟩ => ⟨S256x7168, .fp8e4m3⟩
  | .local _ .vmem, ⟨12, _⟩ => ⟨S256x7168, .fp8e4m3⟩
  | .local _ .vmem, ⟨13, _⟩ => ⟨S1x1x256, .f32⟩
  | .local _ .vmem, ⟨14, _⟩ => ⟨S1x1x256, .f32⟩
  | _, _ => ⟨S2x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S2x6144x7168 : Shape := ⟨3, ![2, 6144, 7168]⟩
abbrev S7168x6144 : Shape := ⟨2, ![7168, 6144]⟩
abbrev S6144 : Shape := ⟨1, ![6144]⟩
abbrev S12288x7168 : Shape := ⟨2, ![12288, 7168]⟩
abbrev S1x6144 : Shape := ⟨2, ![1, 6144]⟩
abbrev S12288x16x128 : Shape := ⟨3, ![12288, 16, 128]⟩
abbrev S48x1x256 : Shape := ⟨3, ![48, 1, 256]⟩
abbrev S12288 : Shape := ⟨1, ![12288]⟩
abbrev S12288x1 : Shape := ⟨2, ![12288, 1]⟩
abbrev S12288x6144 : Shape := ⟨2, ![12288, 6144]⟩
abbrev S12288x2048 : Shape := ⟨2, ![12288, 2048]⟩

abbrev nBuf : Space → Nat
  | .hbm => 12
  | .vmem => 9
  | .smem => 0
  | _ => 0

abbrev bufTy : (tb : Table) → Fin (tcTables nBuf tb) → BufTy
  | .hbm, ⟨0, _⟩ => ⟨S2x6144x7168, .bf16⟩
  | .hbm, ⟨1, _⟩ => ⟨S7168x6144, .fp8e4m3⟩
  | .hbm, ⟨2, _⟩ => ⟨S6144, .f32⟩
  | .hbm, ⟨3, _⟩ => ⟨S6144, .bf16⟩
  | .hbm, ⟨4, _⟩ => ⟨S12288x7168, .bf16⟩
  | .hbm, ⟨5, _⟩ => ⟨S1x6144, .f32⟩
  | .hbm, ⟨6, _⟩ => ⟨S1x6144, .bf16⟩
  | .hbm, ⟨7, _⟩ => ⟨S12288x16x128, .bf16⟩
  | .hbm, ⟨8, _⟩ => ⟨S12288x16x128, .bf16⟩
  | .hbm, ⟨9, _⟩ => ⟨S12288x16x128, .bf16⟩
  | .hbm, ⟨10, _⟩ => ⟨S12288x7168, .fp8e4m3⟩
  | .hbm, ⟨11, _⟩ => ⟨S48x1x256, .f32⟩
  | .local _ .vmem, ⟨0, _⟩ => ⟨S12288x7168, .bf16⟩
  | .local _ .vmem, ⟨1, _⟩ => ⟨S7168x6144, .fp8e4m3⟩
  | .local _ .vmem, ⟨2, _⟩ => ⟨S1x6144, .f32⟩
  | .local _ .vmem, ⟨3, _⟩ => ⟨S1x6144, .bf16⟩
  | .local _ .vmem, ⟨4, _⟩ => ⟨S12288x16x128, .bf16⟩
  | .local _ .vmem, ⟨5, _⟩ => ⟨S12288x16x128, .bf16⟩
  | .local _ .vmem, ⟨6, _⟩ => ⟨S12288x16x128, .bf16⟩
  | .local _ .vmem, ⟨7, _⟩ => ⟨S12288x7168, .fp8e4m3⟩
  | .local _ .vmem, ⟨8, _⟩ => ⟨S48x1x256, .f32⟩
  | _, _ => ⟨S2x6144x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12288x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
module

public import Idealize.ShloMosaic.Lib.Pointwise

/-!
# The power-of-two scale

The kernel finds the exponent field of `y` (the row's largest magnitude divided by 448) by a binary search over the
numbers whose bit pattern is an exponent field alone, and builds the scale and its inverse as bit patterns. The
reference takes `floor (log y / log 2) + 1` and `exp2`. Here both are numbers, not arrays, and are proved equal.
-/

@[expose] public section

noncomputable section

open Idealize.ShloMosaic

namespace Cert.Scale

/-- The number that the bit pattern `k << 23` denotes, `k` an exponent field (`k ≤ 255`), and infinity beyond. -/
def T (k : ℕ) : EReal := if k = 0 then 0 else if k < 255 then (((2 : ℝ) ^ ((k : ℤ) - 127) : ℝ) : EReal) else ⊤

/-- The number denoted by a word shifted up into the exponent field. -/
def field (n : BitVec 32) : EReal := Ideal.ofBits .f32 (IntOp.shli .vector n 23#32)

/-- One step of the search: raise the candidate `n` by `d` if `y` still reaches the raised candidate. -/
def raise (y : EReal) (d n : BitVec 32) : BitVec 32 :=
  Scalar.select (FloatOps.cmpf (F := Ideal) (φ := .f32) .oge y (field (IntOp.addi n d))) (IntOp.addi n d) n

/-- Of a word `k < 256` shifted up into the exponent field: the exponent is `k`, the fraction zero, the sign clear. -/
theorem shifted : ∀ k : Fin 256,
    ((IntOp.shli .vector (BitVec.ofNat 32 k.val) 23#32).extractLsb' 23 8).toNat = k.val
    ∧ ((IntOp.shli .vector (BitVec.ofNat 32 k.val) 23#32).extractLsb' 0 23).toNat = 0
    ∧ ((IntOp.shli .vector (BitVec.ofNat 32 k.val) 23#32).extractLsb' 31 1 == 1#1) = false := by
  decide +kernel

/-- A bit pattern that is an exponent field alone denotes `T`. -/
theorem field_ofNat (k : ℕ) (hk : k < 256) : field (BitVec.ofNat 32 k) = T k := by
  obtain ⟨he, hf, hn⟩ := shifted ⟨k, hk⟩
  unfold field
  generalize hb : IntOp.shli .vector (BitVec.ofNat 32 k) 23#32 = b at *
  show Ideal.ieee 8 23 b = T k
  unfold Ideal.ieee T
  simp only [he, hf, hn]
  rcases Nat.lt_or_ge k 255 with h | h
  · rcases Nat.eq_zero_or_pos k with h0 | h0
    · subst h0; simp
    · have h1 : ¬ k = 0 := by omega
      have h2 : ¬ k = 2 ^ 8 - 1 := by omega
      rw [if_neg h2, if_neg h1, if_neg h1, if_pos h]
      congr 1
      rw [show ((k : ℤ) - 127) = ((k : ℤ) - (2 ^ (8 - 1) - 1) - ((23 : ℕ) : ℤ)) + ((23 : ℕ) : ℤ) by norm_num,
        zpow_add₀ (by norm_num), zpow_natCast]
      push_cast
      simp
      ring
  · have h1 : k = 255 := by omega
    subst h1; simp

theorem T_zero : T 0 = 0 := rfl

/-- `T` at an exponent field in the normal range. -/
theorem T_mid {k : ℕ} (h0 : k ≠ 0) (h : k < 255) : T k = (((2 : ℝ) ^ ((k : ℤ) - 127) : ℝ) : EReal) := by
  simp [T, h0, h]

/-- `T` does not decrease. -/
theorem T_mono {a b : ℕ} (h : a ≤ b) : T a ≤ T b := by
  unfold T
  split_ifs with h1 h2 h3 h4 h5 <;> first | omega | skip
  · exact le_refl _
  · exact_mod_cast (zpow_pos (by norm_num : (0 : ℝ) < 2) _).le
  · exact le_top
  · exact EReal.coe_le_coe_iff.mpr (zpow_le_zpow_right₀ (by norm_num : (1 : ℝ) ≤ 2) (by omega))
  · exact le_top
  · exact le_refl _

/-- The search's state: the candidate is the word of an `n` with `T n ≤ y < T (n + d)`. -/
def Bracket (y : EReal) (d : ℕ) (w : BitVec 32) : Prop :=
  ∃ n : ℕ, w = BitVec.ofNat 32 n ∧ n + d ≤ 256 ∧ T n ≤ y ∧ y < T (n + d)

/-- A step halves the bracket. -/
theorem Bracket.raise {y : EReal} {d : ℕ} (hd : 0 < d) {w : BitVec 32} (h : Bracket y (2 * d) w) :
    Bracket y d (raise y (BitVec.ofNat 32 d) w) := by
  obtain ⟨n, rfl, hn, hlo, hhi⟩ := h
  have hadd : IntOp.addi (BitVec.ofNat 32 n) (BitVec.ofNat 32 d) = BitVec.ofNat 32 (n + d) := by
    simp [IntOp.addi, BitVec.ofNat_add]
  unfold Scale.raise
  rw [hadd, field_ofNat _ (by omega)]
  have hsel : Scalar.select (FloatOps.cmpf (F := Ideal) (φ := .f32) .oge y (T (n + d))) (BitVec.ofNat 32 (n + d))
      (BitVec.ofNat 32 n) = if T (n + d) ≤ y then BitVec.ofNat 32 (n + d) else BitVec.ofNat 32 n := by
    pointwise
  rw [hsel]
  split_ifs with hc
  · exact ⟨n + d, rfl, by omega, hc, by rwa [show n + d + d = n + 2 * d by omega]⟩
  · exact ⟨n, rfl, by omega, hlo, not_le.mp hc⟩

/-- The whole search, from the candidate zero. -/
def search (y : EReal) : BitVec 32 :=
  raise y 1#32 (raise y 2#32 (raise y 4#32 (raise y 8#32 (raise y 16#32 (raise y 32#32 (raise y 64#32 (raise y 128#32 0#32)))))))

/-- The search ends at the `n` with `T n ≤ y < T (n + 1)`. -/
theorem search_bracket {y : EReal} (h0 : 0 ≤ y) (h : y < ⊤) : Bracket y 1 (search y) := by
  have h8 : Bracket y (2 * 128) 0#32 := ⟨0, rfl, by omega, h0, h⟩
  have h7 : Bracket y (2 * 64) _ := h8.raise (by omega)
  have h6 : Bracket y (2 * 32) _ := h7.raise (by omega)
  have h5 : Bracket y (2 * 16) _ := h6.raise (by omega)
  have h4 : Bracket y (2 * 8) _ := h5.raise (by omega)
  have h3 : Bracket y (2 * 4) _ := h4.raise (by omega)
  have h2 : Bracket y (2 * 2) _ := h3.raise (by omega)
  have h1 : Bracket y (2 * 1) _ := h2.raise (by omega)
  exact h1.raise (by omega)

/-- The exponent that the kernel computes for a row of largest magnitude `a`, with `y` its 448th part: a word. -/
def kexp (a y : EReal) : BitVec 32 :=
  Scalar.select (FloatOps.cmpf (F := Ideal) (φ := .f32) .oeq a (Ideal.ofBits .f32 0x00000000#32)) 0#32
    (Scalar.select (IntOp.ori (IntOp.cmpi .eq (search y) 0#32) (IntOp.cmpi .eq (search y) 255#32)) 0#32
      (IntOp.subi (search y) 126#32))

/-- The scale that the kernel builds, as the number its bit pattern denotes. -/
def kscale (a y : EReal) : EReal := field (IntOp.addi 127#32 (kexp a y))

/-- The inverse scale that the kernel builds. -/
def kinv (a y : EReal) : EReal := field (IntOp.subi 127#32 (kexp a y))

/-- The exponent that the reference computes: zero below the least normal number, otherwise `floor (log y / log 2) + 1`. -/
def rexp (y : EReal) : EReal :=
  Scalar.select (FloatOps.cmpf (F := Ideal) (φ := .f32) .olt y (Ideal.ofBits .f32 0x00800000#32)) (Ideal.ofBits .f32 0x00000000#32)
    (Ideal.liftRound Int.floor (Ideal.div (Ideal.log y) (Ideal.log (Ideal.ofBits .f32 0x40000000#32))) + Ideal.ofBits .f32 0x3F800000#32)

/-- The reference's scale. -/
def rscale (y : EReal) : EReal := Ideal.exp2 (rexp y)

/-- The reference's inverse scale. -/
def rinv (y : EReal) : EReal := Ideal.exp2 (Ideal.ofBits .f32 0x00000000#32 - rexp y)

/-- The words of the exponent, for an exponent field `n` from 1 to 252. -/
theorem words : ∀ n : Fin 253, n.val ≠ 0 →
    IntOp.ori (IntOp.cmpi .eq (BitVec.ofNat 32 n.val) 0#32) (IntOp.cmpi .eq (BitVec.ofNat 32 n.val) 255#32) = 0#1
    ∧ IntOp.addi 127#32 (IntOp.subi (BitVec.ofNat 32 n.val) 126#32) = BitVec.ofNat 32 (n.val + 1)
    ∧ IntOp.subi 127#32 (IntOp.subi (BitVec.ofNat 32 n.val) 126#32) = BitVec.ofNat 32 (253 - n.val) := by
  decide +kernel

/-- The least normal number. -/
theorem tiny : Ideal.ofBits .f32 0x00800000#32 = T 1 := by
  rw [← field_ofNat 1 (by omega)]; rfl

/-- The number two. -/
theorem two : Ideal.ofBits .f32 0x40000000#32 = ((2 : ℝ) : EReal) := by
  rw [show Ideal.ofBits .f32 0x40000000#32 = field (BitVec.ofNat 32 128) from rfl, field_ofNat 128 (by omega),
    T_mid (by omega) (by omega)]
  norm_num

/-- The floor of the logarithm to base two, from the powers of two on either side. -/
theorem floor_log {r : ℝ} {k : ℤ} (h1 : (2 : ℝ) ^ k ≤ r) (h2 : r < (2 : ℝ) ^ (k + 1)) : ⌊Real.log r / Real.log 2⌋ = k := by
  have hp : (0 : ℝ) < 2 ^ k := zpow_pos (by norm_num) _
  have hr : 0 < r := lt_of_lt_of_le hp h1
  have hl : 0 < Real.log 2 := Real.log_pos (by norm_num)
  rw [Int.floor_eq_iff]
  constructor
  · rw [le_div_iff₀ hl, ← Real.log_zpow]
    exact Real.log_le_log hp h1
  · rw [div_lt_iff₀ hl]
    have := Real.log_lt_log hr h2
    rw [Real.log_zpow] at this
    push_cast at this
    exact this

/-- `exp2` of an integer is the integer power of two. -/
theorem exp2_int (k : ℤ) : Ideal.exp2 (((k : ℤ) : ℝ) : EReal) = (((2 : ℝ) ^ k : ℝ) : EReal) := by
  show ((Real.rpow 2 (k : ℝ) : ℝ) : EReal) = _
  congr 1
  exact Real.rpow_intCast 2 k

/-- The reference's exponent between two powers of two. -/
theorem rexp_mid {n : ℕ} (h0 : n ≠ 0) (hn : n < 253) {y : EReal} (hlo : T n ≤ y) (hhi : y < T (n + 1)) :
    rexp y = (((((n : ℤ) - 126 : ℤ)) : ℝ) : EReal) := by
  have hT1 : T 1 ≤ y := (T_mono (by omega)).trans hlo
  rw [T_mid h0 (by omega)] at hlo
  rw [T_mid (by omega) (by omega)] at hhi
  have hne_bot : y ≠ ⊥ := fun h => by rw [h] at hlo; exact absurd hlo (not_le.mpr (EReal.bot_lt_coe _))
  have hne_top : y ≠ ⊤ := fun h => by rw [h] at hhi; exact absurd hhi (not_lt.mpr le_top)
  lift y to ℝ using ⟨hne_top, hne_bot⟩
  have h1 : (2 : ℝ) ^ ((n : ℤ) - 127) ≤ y := EReal.coe_le_coe_iff.mp hlo
  have h2 : y < (2 : ℝ) ^ (((n : ℤ) - 127) + 1) := by
    have := EReal.coe_lt_coe_iff.mp hhi
    rwa [show ((n + 1 : ℕ) : ℤ) - 127 = ((n : ℤ) - 127) + 1 by push_cast; ring] at this
  have hy : 0 < y := lt_of_lt_of_le (zpow_pos (by norm_num) _) h1
  have hsel : rexp (y : EReal) = Ideal.liftRound Int.floor (Ideal.div (Ideal.log (y : EReal)) (Ideal.log ((2 : ℝ) : EReal))) + 1 := by
    unfold rexp
    rw [tiny, two, Ideal.ofBits_one_f32]
    have : ¬ ((y : EReal) < T 1) := not_lt.mpr hT1
    pointwise
    rw [if_neg this]
  rw [hsel]
  have hly : Ideal.log (y : EReal) = ((Real.log y : ℝ) : EReal) := by
    show (if y ≤ 0 then (⊥ : EReal) else _) = _
    rw [if_neg (not_le.mpr hy)]
  have hl2 : Ideal.log ((2 : ℝ) : EReal) = ((Real.log 2 : ℝ) : EReal) := by
    show (if (2 : ℝ) ≤ 0 then (⊥ : EReal) else _) = _
    rw [if_neg (by norm_num)]
  have hl : Real.log 2 ≠ 0 := (Real.log_pos (by norm_num)).ne'
  rw [hly, hl2]
  have hd : Ideal.div ((Real.log y : ℝ) : EReal) ((Real.log 2 : ℝ) : EReal) = ((Real.log y / Real.log 2 : ℝ) : EReal) := by
    unfold Ideal.div
    rw [if_neg (by exact_mod_cast hl), ← EReal.coe_inv, ← EReal.coe_mul, div_eq_mul_inv]
  rw [hd]
  show ((((⌊Real.log y / Real.log 2⌋ : ℤ) : ℝ) : ℝ) : EReal) + ((1 : ℝ) : EReal) = _
  rw [floor_log h1 h2, ← EReal.coe_add]
  congr 1
  push_cast
  ring

/-- For `a` not negative, of 448th part `y` in the kernel's and the reference's sense alike, below `2 ^ 126`: the kernel's
    scale and inverse scale are the reference's. -/
theorem scale_eq {a y : EReal} (h0 : 0 ≤ y) (hlt : y < T 253) (hz : a = 0 → y = 0) :
    kscale a y = rscale y ∧ kinv a y = rinv y := by
  obtain ⟨n, hs, -, hlo, hhi⟩ := search_bracket h0 (hlt.trans_le le_top)
  have hn : n < 253 := by
    by_contra h
    exact absurd (hlt.trans_le ((T_mono (not_lt.mp h)).trans hlo)) (lt_irrefl _)
  rcases Nat.eq_zero_or_pos n with h | h
  · subst h
    have he : kexp a y = 0#32 := by
      unfold kexp
      rw [hs]
      have h1 : Scalar.select (IntOp.ori (IntOp.cmpi .eq (BitVec.ofNat 32 0) 0#32) (IntOp.cmpi .eq (BitVec.ofNat 32 0) 255#32)) 0#32
          (IntOp.subi (BitVec.ofNat 32 0) 126#32) = 0#32 := by decide
      rw [h1]
      unfold Scalar.select
      split_ifs <;> rfl
    have hr : rexp y = 0 := by
      unfold rexp
      rw [tiny, Ideal.ofBits_zero_f32]
      pointwise
      rw [if_pos hhi]
    have h127 : field 127#32 = 1 := by
      rw [show (127#32 : BitVec 32) = BitVec.ofNat 32 127 from rfl, field_ofNat 127 (by omega), T_mid (by omega) (by omega)]
      norm_num
    have hexp : Ideal.exp2 0 = 1 := by
      have := exp2_int 0
      simpa using this
    constructor
    · unfold kscale rscale
      rw [he, hr, hexp, show IntOp.addi 127#32 0#32 = 127#32 from by decide, h127]
    · unfold kinv rinv
      rw [he, hr, Ideal.ofBits_zero_f32, show (0 : EReal) - 0 = 0 by simp, hexp, show IntOp.subi 127#32 0#32 = 127#32 from by decide, h127]
  · have h' : n ≠ 0 := by omega
    obtain ⟨w1, w2, w3⟩ := words ⟨n, hn⟩ h'
    have ha : a ≠ 0 := fun h => by
      rw [hz h, T_mid h' (by omega)] at hlo
      exact absurd hlo (not_le.mpr (by exact_mod_cast zpow_pos (by norm_num : (0 : ℝ) < 2) _))
    have he : kexp a y = IntOp.subi (BitVec.ofNat 32 n) 126#32 := by
      unfold kexp
      rw [hs, Ideal.ofBits_zero_f32]
      simp only at w1
      rw [w1]
      pointwise
      rw [if_neg ha]
    have hr := rexp_mid h' hn hlo hhi
    constructor
    · unfold kscale rscale
      simp only at w2
      rw [he, w2, field_ofNat _ (by omega), T_mid (by omega) (by omega), hr, exp2_int]
      congr 2
      push_cast
      ring
    · unfold kinv rinv
      simp only at w3
      rw [he, w3, field_ofNat _ (by omega), T_mid (by omega) (by omega), hr, Ideal.ofBits_zero_f32]
      have : (0 : EReal) - (((((n : ℤ) - 126 : ℤ)) : ℝ) : EReal) = ((((126 - (n : ℤ) : ℤ)) : ℝ) : EReal) := by
        rw [← EReal.coe_zero, ← EReal.coe_sub]
        congr 1
        push_cast
        ring
      rw [this, exp2_int]
      congr 2
      omega

end Cert.Scale
-- ==== Proof.Rows.lean ====
module

public import proofs.«01_k».proof.Proof.Scale

/-!
# One row of the result

What kernel and reference compute for one row `f` of the activations, as functions of the row, of a column `w` of the
weights, of the column's scale `s` and of its bias `b`. The scale of the row and its inverse are parameters here: the
kernel and the reference find them differently (`Scale.lean`).
-/

@[expose] public section

noncomputable section

open Idealize.ShloMosaic

namespace Cert.Row

/-- The row's largest magnitude. -/
def amax (f : Fin 7168 → EReal) : EReal := Finset.univ.fold max ⊥ fun k => FloatOps.absf (F := Ideal) (φ := .f32) (f k)

/-- Its 448th part, by the constant that both programs multiply by. -/
def part (f : Fin 7168 → EReal) : EReal := amax f * Ideal.ofBits .f32 0x3B124925#32

/-- The code of one element: scaled by the inverse scale `i` and clipped to ±448. -/
def code (i : EReal) (x : EReal) : EReal :=
  min (Ideal.ofBits .f32 0x43E00000#32) (max (Ideal.ofBits .f32 0xC3E00000#32) (x * i))

/-- One element of the product: the codes times a column of the weights, the two scales, the bias. -/
def entry (sc i : EReal) (f w : Fin 7168 → EReal) (s b : EReal) : EReal :=
  (∑ k, code i (f k) * w k) * sc * s + b

/-- A row of an array of activations. -/
abbrev row {n : ℕ} (X : Vec Ideal ⟨2, ![n, 7168]⟩ .bf16) (r : Fin n) : Fin 7168 → EReal := fun k => X (ix2 r k)

/-- The heads from column `base` on, sixteen of 128 columns, with `sc` and `inv` the rules that give a row's scale and its
    inverse from the largest magnitude and its 448th part. -/
def heads (sc inv : EReal → EReal → EReal) {n : ℕ} (base : ℕ) (hb : base + 2048 ≤ 6144) (X : Vec Ideal ⟨2, ![n, 7168]⟩ .bf16)
    (W : Vec Ideal ⟨2, ![7168, 6144]⟩ .fp8e4m3) (S : Vec Ideal ⟨2, ![1, 6144]⟩ .f32) (B : Vec Ideal ⟨2, ![1, 6144]⟩ .bf16) :
    Vec Ideal ⟨3, ![n, 16, 128]⟩ .bf16 := fun j =>
  have hj : base + (128 * (j 1 : ℕ) + (j 2 : ℕ)) < 6144 := by
    have h1 : (j 1 : ℕ) < 16 := (j 1).isLt
    have h2 : (j 2 : ℕ) < 128 := (j 2).isLt
    omega
  entry (sc (amax (row X (j 0))) (part (row X (j 0)))) (inv (amax (row X (j 0))) (part (row X (j 0)))) (row X (j 0))
    (fun k => W (ix2 k ⟨base + (128 * (j 1 : ℕ) + (j 2 : ℕ)), hj⟩)) (S (ix2 0 ⟨base + (128 * (j 1 : ℕ) + (j 2 : ℕ)), hj⟩))
    (B (ix2 0 ⟨base + (128 * (j 1 : ℕ) + (j 2 : ℕ)), hj⟩))

/-- The codes of every row. -/
def codes (inv : EReal → EReal → EReal) {n : ℕ} (X : Vec Ideal ⟨2, ![n, 7168]⟩ .bf16) : Vec Ideal ⟨2, ![n, 7168]⟩ .fp8e4m3 :=
  fun j => code (inv (amax (row X (j 0))) (part (row X (j 0)))) (X j)

/-- The scales of `256 n` rows, 256 to a line. -/
def scales (sc : EReal → EReal → EReal) {n : ℕ} (X : Vec Ideal ⟨2, ![256 * n, 7168]⟩ .bf16) : Vec Ideal ⟨3, ![n, 1, 256]⟩ .f32 := fun j =>
  have hj : 256 * (j 0 : ℕ) + (j 2 : ℕ) < 256 * n := by
    have h0 : (j 0 : ℕ) < n := (j 0).isLt
    have h2 : (j 2 : ℕ) < 256 := (j 2).isLt
    omega
  sc (amax (row X ⟨256 * (j 0 : ℕ) + (j 2 : ℕ), hj⟩)) (part (row X ⟨256 * (j 0 : ℕ) + (j 2 : ℕ), hj⟩))

/-- The heads of a row depend on that row alone of the activations. -/
theorem heads_row (sc inv : EReal → EReal → EReal) {n N : ℕ} (base : ℕ) (hb : base + 2048 ≤ 6144) (X : Vec Ideal ⟨2, ![n, 7168]⟩ .bf16)
    (Y : Vec Ideal ⟨2, ![N, 7168]⟩ .bf16) (W : Vec Ideal ⟨2, ![7168, 6144]⟩ .fp8e4m3) (S : Vec Ideal ⟨2, ![1, 6144]⟩ .f32)
    (B : Vec Ideal ⟨2, ![1, 6144]⟩ .bf16) (r : Fin n) (r' : Fin N) (h : Fin 16) (l : Fin 128) (e : row X r = row Y r') :
    heads sc inv base hb X W S B (ix3 r h l) = heads sc inv base hb Y W S B (ix3 r' h l) := by
  have hj : base + (128 * (h : ℕ) + (l : ℕ)) < 6144 := by omega
  show entry (sc (amax (row X r)) (part (row X r))) (inv (amax (row X r)) (part (row X r))) (row X r)
    (fun k => W (ix2 k ⟨base + (128 * (h : ℕ) + (l : ℕ)), hj⟩)) (S (ix2 0 ⟨base + (128 * (h : ℕ) + (l : ℕ)), hj⟩))
    (B (ix2 0 ⟨base + (128 * (h : ℕ) + (l : ℕ)), hj⟩)) = _
  rw [e]
  rfl

/-- So do its codes. -/
theorem codes_row (inv : EReal → EReal → EReal) {n N : ℕ} (X : Vec Ideal ⟨2, ![n, 7168]⟩ .bf16) (Y : Vec Ideal ⟨2, ![N, 7168]⟩ .bf16)
    (r : Fin n) (r' : Fin N) (k : Fin 7168) (e : row X r = row Y r') : codes inv X (ix2 r k) = codes inv Y (ix2 r' k) := by
  show code (inv (amax (row X r)) (part (row X r))) (row X r k) = _
  rw [e]
  rfl

/-- The bit pattern of minus infinity. -/
theorem neg_inf : Ideal.ofBits .f32 0xFF800000#32 = ⊥ := by
  simp [Ideal.ofBits, Ideal.ieee]

/-- A maximum over the columns of an array, read at a row. -/
theorem max_apply {n : ℕ} (v : FVec Ideal ⟨2, ![n, 7168]⟩ .f32) (h : (⟨2, ![n, 7168]⟩ : Shape).Reduces [1] ⟨1, ![n]⟩)
    (hφ : FKind.Formats .f32) (hacc : 0xFF800000#32 = FKind.maximumf.neutral .f32 hφ) (r : Fin n) :
    multiReduction .maximumf [1] ⟨1, ![n]⟩ v 0xFF800000#32 h hφ hacc (ix1 r) = Finset.univ.fold max ⊥ fun k => v (ix2 r k) := by
  rw [multiReduction_maximumf_eq_fold, h.fold_fiber_r2_a1]
  show Finset.univ.fold max (Ideal.ofBits .f32 0xFF800000#32) _ = _
  rw [neg_inf]
  rfl

end Cert.Row
-- ==== Proof.Bounds.lean ====
module

public import proofs.«01_k».proof.Proof.Rows

/-!
# Rows of finite activations

Where no element of a row is larger than the largest finite bf16 number, the row's 448th part lies in the range in
which the two ways to find the scale agree, so results made with the one are results made with the other.
-/

@[expose] public section

noncomputable section

open Idealize.ShloMosaic Cert.Scale

namespace Cert.Row

/-- No element of the row is larger in magnitude than the largest finite bf16 number. -/
def Fits (f : Fin 7168 → EReal) : Prop :=
  ∀ k, FloatOps.absf (F := Ideal) (φ := .f32) (f k) ≤ Ideal.ofBits .f32 0x7F7F0000#32

/-- The largest finite bf16 number. -/
theorem largest : Ideal.ofBits .f32 0x7F7F0000#32 = ((255 * (2 : ℝ) ^ 120 : ℝ) : EReal) := by
  have he : ((0x7F7F0000#32 : BitVec 32).extractLsb' 23 8).toNat = 254 := by decide
  have hf : ((0x7F7F0000#32 : BitVec 32).extractLsb' 0 23).toNat = 8323072 := by decide
  have hn : ((0x7F7F0000#32 : BitVec 32).extractLsb' 31 1 == 1#1) = false := by decide
  show Ideal.ieee 8 23 (0x7F7F0000#32 : BitVec 32) = _
  unfold Ideal.ieee
  simp only [he, hf, hn]
  norm_num

/-- The constant that stands for a 448th. -/
theorem factor : Ideal.ofBits .f32 0x3B124925#32 = ((9586981 * (2 : ℝ) ^ (-32 : ℤ) : ℝ) : EReal) := by
  have he : ((0x3B124925#32 : BitVec 32).extractLsb' 23 8).toNat = 118 := by decide
  have hf : ((0x3B124925#32 : BitVec 32).extractLsb' 0 23).toNat = 1198373 := by decide
  have hn : ((0x3B124925#32 : BitVec 32).extractLsb' 31 1 == 1#1) = false := by decide
  show Ideal.ieee 8 23 (0x3B124925#32 : BitVec 32) = _
  unfold Ideal.ieee
  simp only [he, hf, hn]
  norm_num

/-- A magnitude is not negative. -/
theorem abs_nonneg' (x : EReal) : 0 ≤ FloatOps.absf (F := Ideal) (φ := .f32) x := by
  show (0 : EReal) ≤ max x (-x)
  rcases le_total 0 x with h | h
  · exact h.trans (le_max_left _ _)
  · exact (EReal.neg_nonneg.mpr h).trans (le_max_right _ _)

/-- Neither is the largest of a row. -/
theorem amax_nonneg (f : Fin 7168 → EReal) : 0 ≤ amax f := by
  unfold amax
  exact (Finset.le_fold_max _).mpr (Or.inr ⟨0, Finset.mem_univ _, abs_nonneg' _⟩)

/-- The largest magnitude of a row that fits. -/
theorem amax_le {f : Fin 7168 → EReal} (h : Fits f) : amax f ≤ Ideal.ofBits .f32 0x7F7F0000#32 := by
  unfold amax
  exact (Finset.fold_max_le _).mpr ⟨bot_le, fun k _ => h k⟩

/-- The 448th part of a row that fits: not negative, below `2 ^ 126`, and zero for a row of zeros. -/
theorem part_bounds {f : Fin 7168 → EReal} (h : Fits f) : 0 ≤ part f ∧ part f < Scale.T 253 ∧ (amax f = 0 → part f = 0) := by
  have h0 := amax_nonneg f
  have h1 := amax_le h
  unfold part
  rw [factor, T_mid (by omega) (by omega)]
  rw [largest] at h1
  generalize amax f = a at *
  induction a using EReal.rec with
  | bot => simp at h0
  | top => exact absurd h1 (not_le.mpr (EReal.coe_lt_top _))
  | coe r =>
    have h0' : 0 ≤ r := by exact_mod_cast h0
    have h1' : r ≤ 255 * (2 : ℝ) ^ 120 := EReal.coe_le_coe_iff.mp h1
    rw [← EReal.coe_mul]
    refine ⟨?_, ?_, ?_⟩
    · have : 0 ≤ r * (9586981 * (2 : ℝ) ^ (-32 : ℤ)) := by positivity
      exact_mod_cast this
    · refine EReal.coe_lt_coe_iff.mpr ?_
      calc r * (9586981 * (2 : ℝ) ^ (-32 : ℤ)) ≤ 255 * (2 : ℝ) ^ 120 * (9586981 * (2 : ℝ) ^ (-32 : ℤ)) :=
            mul_le_mul_of_nonneg_right h1' (by positivity)
        _ < _ := by norm_num
    · intro e
      have e' : r = 0 := by exact_mod_cast e
      rw [e', zero_mul]
      rfl

/-- The scale of a row that fits, and its inverse. -/
theorem scale_row {f : Fin 7168 → EReal} (h : Fits f) :
    kscale (amax f) (part f) = rscale (part f) ∧ kinv (amax f) (part f) = rinv (part f) :=
  scale_eq (part_bounds h).1 (part_bounds h).2.1 (part_bounds h).2.2

/-- The heads, with either rule. -/
theorem heads_eq {n : ℕ} (base : ℕ) (hb : base + 2048 ≤ 6144) (X : Vec Ideal ⟨2, ![n, 7168]⟩ .bf16)
    (W : Vec Ideal ⟨2, ![7168, 6144]⟩ .fp8e4m3) (S : Vec Ideal ⟨2, ![1, 6144]⟩ .f32) (B : Vec Ideal ⟨2, ![1, 6144]⟩ .bf16)
    (h : ∀ r, Fits (row X r)) :
    heads kscale kinv base hb X W S B = heads (fun _ y => rscale y) (fun _ y => rinv y) base hb X W S B := by
  funext j
  unfold heads
  rw [(scale_row (h (j 0))).1, (scale_row (h (j 0))).2]

/-- The codes, with either rule. -/
theorem codes_eq {n : ℕ} (X : Vec Ideal ⟨2, ![n, 7168]⟩ .bf16) (h : ∀ r, Fits (row X r)) :
    codes kinv X = codes (fun _ y => rinv y) X := by
  funext j
  unfold codes
  rw [(scale_row (h (j 0))).2]

/-- The scales, with either rule. -/
theorem scales_eq {n : ℕ} (X : Vec Ideal ⟨2, ![256 * n, 7168]⟩ .bf16) (h : ∀ r, Fits (row X r)) :
    scales kscale X = scales (fun _ y => rscale y) X := by
  funext j
  unfold scales
  exact (scale_row (h _)).1

end Cert.Row
-- ==== Proof.KernelBlock.lean ====
module

public import proofs.«01_k».proof.Proof.Gen.KernelIdeal.Skeleton
public import proofs.«01_k».proof.Proof.Rows
public import Idealize.ShloMosaic.Lib.Pipeline.ValueKit

/-!
# What one grid point computes

The kernel's values over the reals, at an index, as the row functions of `Rows.lean`: the row's scale, its inverse, the
codes, and the twelve chunks of the product.
-/

@[expose] public section

set_option maxRecDepth 16384

noncomputable section

open Idealize.ShloMosaic Cert.Scale Cert.Row

namespace Cert.KernelIdeal.Block

open Cert.KernelIdeal Cert.KernelIdeal.Gen

/-- The broadcast largest magnitude of a row. -/
theorem amax_at (x : Vec Ideal S256x7168 .bf16) (r : Fin 256) (l : Fin 128) : k0_pay3 x (ix2 r l) = amax (row x r) := by
  have hx : ∀ k : Fin 7168, k0_pay2 x (ix2 r k) = x (ix2 r k) := fun k => by pointwise [k0_pay2]
  unfold k0_pay3
  refine Eq.trans (b := multiReduction .maximumf [1] S256 (absf (k0_pay2 x)) 0xFF800000#32 reduces_S256x7168_S256 (.inl rfl) rfl (ix1 r)) ?_ ?_
  · generalize multiReduction .maximumf [1] S256 (absf (k0_pay2 x)) 0xFF800000#32 reduces_S256x7168_S256 (.inl rfl) rfl = v
    pointwise
  · refine (max_apply (absf (k0_pay2 x)) _ _ _ r).trans ?_
    unfold amax
    refine congrArg (fun g => Finset.univ.fold max ⊥ g) (funext fun k => ?_)
    show FloatOps.absf (k0_pay2 x (ix2 r k)) = _
    rw [hx]

theorem mul_at (v : FVec Ideal S256x128 .f32) (j : S256x128.Idx) :
    mulf v (broadcast S256x128 (Scalar.ofBits .f32 0x3B124925#32)) j = v j * Ideal.ofBits .f32 0x3B124925#32 := rfl

/-- The 448th part of it. -/
theorem part_at (x : Vec Ideal S256x7168 .bf16) (r : Fin 256) (l : Fin 128) : k0_pay4 x (ix2 r l) = part (row x r) := by
  unfold part
  rw [← amax_at x r l, ← mul_at]
  rfl

/-- One step of the search, on whole arrays. -/
def step (y : FVec Ideal S256x128 .f32) (d : BitVec 32) (n : IVec S256x128 32) : IVec S256x128 32 :=
  select (cmpf .oge y (bitcastToFloat .f32 (shli (addi n (broadcast S256x128 d)) (broadcast S256x128 23#32))))
    (addi n (broadcast S256x128 d)) n

theorem step_at (y : FVec Ideal S256x128 .f32) (d : BitVec 32) (n : IVec S256x128 32) (j : S256x128.Idx) :
    step y d n j = raise (y j) d (n j) := rfl

/-- What the search's result `n` is made into, on whole arrays. -/
def finish (a : FVec Ideal S256x128 .f32) (n : IVec S256x128 32) : IVec S256x128 32 :=
  select (cmpf .oeq a (broadcast S256x128 (Scalar.ofBits .f32 0x00000000#32))) (broadcast S256x128 0#32)
    (select (ori (cmpi .eq n (broadcast S256x128 0#32)) (cmpi .eq n (broadcast S256x128 255#32))) (broadcast S256x128 0#32)
      (subi n (broadcast S256x128 126#32)))

theorem finish_at (a : FVec Ideal S256x128 .f32) (n : IVec S256x128 32) (j : S256x128.Idx) :
    finish a n j = Scalar.select (FloatOps.cmpf (F := Ideal) (φ := .f32) .oeq (a j) (Ideal.ofBits .f32 0#32)) 0#32
      (Scalar.select (IntOp.ori (IntOp.cmpi .eq (n j) 0#32) (IntOp.cmpi .eq (n j) 255#32)) 0#32 (IntOp.subi (n j) 126#32)) := rfl

/-- The search's first four steps. -/
theorem search_hi (x : Vec Ideal S256x7168 .bf16) :
    k0_pay5 x = step (k0_pay4 x) 16#32 (step (k0_pay4 x) 32#32 (step (k0_pay4 x) 64#32 (step (k0_pay4 x) 128#32 (broadcast S256x128 0#32)))) := by
  unfold k0_pay5
  rfl

/-- The search's last three steps, after one whose test and candidate are given. -/
theorem search_lo (a y : FVec Ideal S256x128 .f32) (n c : IVec S256x128 32) (t : FVec Ideal S256x128 .f32) :
    k0_pay8 a y n c t = finish a (step y 1#32 (step y 2#32 (step y 4#32 (select (cmpf .oge y t) c n)))) := by
  unfold k0_pay8
  rfl

/-- The whole search, at an index. -/
theorem finish_search_at (a y : FVec Ideal S256x128 .f32) (j : S256x128.Idx) :
    finish a (step y 1#32 (step y 2#32 (step y 4#32 (step y 8#32 (step y 16#32 (step y 32#32 (step y 64#32 (step y 128#32
      (broadcast S256x128 0#32))))))))) j = kexp (a j) (y j) := by
  have hz : (broadcast S256x128 0#32 : IVec S256x128 32) j = 0#32 := rfl
  rw [finish_at]
  simp only [step_at, hz]
  unfold kexp search
  rfl

theorem fourth (x : Vec Ideal S256x7168 .bf16) :
    select (cmpf .oge (k0_pay4 x) (k0_pay7 x)) (k0_pay6 x) (k0_pay5 x) = step (k0_pay4 x) 8#32 (k0_pay5 x) := by
  unfold k0_pay7 k0_pay6
  rfl

/-- The exponent. -/
theorem exp_at (x : Vec Ideal S256x7168 .bf16) (j : S256x128.Idx) :
    k0_pay8 (k0_pay3 x) (k0_pay4 x) (k0_pay5 x) (k0_pay6 x) (k0_pay7 x) j = kexp (k0_pay3 x j) (k0_pay4 x j) := by
  rw [search_lo, fourth, search_hi]
  exact finish_search_at _ _ j

/-- The broadcast scales of a block's rows. -/
abbrev sc (x : Vec Ideal S256x7168 .bf16) : FVec Ideal S256x128 .f32 := k0_pay9 (k0_pay3 x) (k0_pay4 x) (k0_pay5 x) (k0_pay6 x) (k0_pay7 x)

/-- The codes of a block. -/
abbrev cd (x : Vec Ideal S256x7168 .bf16) : FVec Ideal S256x7168 .fp8e4m3 :=
  k0_pay13 (k0_pay2 x) (k0_pay10 (k0_pay3 x) (k0_pay4 x) (k0_pay5 x) (k0_pay6 x) (k0_pay7 x)) k0_pay11

/-- The scale of a row. -/
theorem scale_at (x : Vec Ideal S256x7168 .bf16) (r : Fin 256) (l : Fin 128) :
    sc x (ix2 r l) = kscale (amax (row x r)) (part (row x r)) := by
  show field (IntOp.addi 127#32 (k0_pay8 (k0_pay3 x) (k0_pay4 x) (k0_pay5 x) (k0_pay6 x) (k0_pay7 x) (ix2 r l))) = _
  rw [exp_at, amax_at, part_at]; rfl

/-- The codes of a row. -/
theorem code_at (x : Vec Ideal S256x7168 .bf16) (r : Fin 256) (k : Fin 7168) :
    cd x (ix2 r k)
      = code (kinv (amax (row x r)) (part (row x r))) (x (ix2 r k)) := by
  have hx : k0_pay2 x (ix2 r k) = x (ix2 r k) := by pointwise [k0_pay2]
  have h : ∀ (v2 : FVec Ideal S256x7168 .f32) (v86 v87 : IVec S256x128 32), k0_pay13 v2 v86 v87 (ix2 r k)
      = code (Ideal.ofBits .f32 (IntOp.shli .vector (v86 (ix2 r 0)) (v87 (ix2 r 0)))) (v2 (ix2 r k)) := fun v2 v86 v87 => by
    pointwise [k0_pay13]; rfl
  unfold cd
  rw [h, hx]
  show code (field (IntOp.subi 127#32 (k0_pay8 (k0_pay3 x) (k0_pay4 x) (k0_pay5 x) (k0_pay6 x) (k0_pay7 x) (ix2 r 0)))) _ = _
  rw [exp_at, amax_at, part_at]; rfl

/-- One chunk of the product before it is packed: the codes `c` times a chunk of the weights, the scales, the bias. -/
def chunk (sc : FVec Ideal S256x128 .f32) (c : FVec Ideal S256x7168 .fp8e4m3) (w : Vec Ideal S7168x512 .fp8e4m3)
    (s : Vec Ideal S1x512 .f32) (b : Vec Ideal S1x512 .bf16) : FVec Ideal S256x512 .f32 := k0_pay15 sc c w s b

/-- A chunk at an index. -/
theorem chunk_at (sc : FVec Ideal S256x128 .f32) (c : FVec Ideal S256x7168 .fp8e4m3) (w : Vec Ideal S7168x512 .fp8e4m3)
    (s : Vec Ideal S1x512 .f32) (b : Vec Ideal S1x512 .bf16) (r : Fin 256) (l : Fin 512) :
    chunk sc c w s b (ix2 r l) = (∑ k : Fin 7168, c (ix2 r k) * w (ix2 k l)) * sc (ix2 r 0) * s (ix2 0 l) + b (ix2 0 l) := by
  pointwise [chunk, k0_pay15, k0_pay14]

/-- Two heads of 128 columns out of a chunk, from column `o` on, packed row by row. -/
def pair (z : FVec Ideal S256x512 .f32) (o : ℕ) (h0 : S256x512.Slices ![0, o] S256x128) (h1 : S256x512.Slices ![0, o + 128] S256x128) :
    FVec Ideal S256x2x128 .bf16 :=
  interleaveRows S256x2x128 (shapeCast S256x1x128 (truncf .bf16 (extractStridedSlice S256x128 ![0, o] z h0)) shapeCasts_S256x128_S256x1x128)
    (shapeCast S256x1x128 (truncf .bf16 (extractStridedSlice S256x128 ![0, o + 128] z h1)) shapeCasts_S256x128_S256x1x128)
    bitcasts_S256x2x128_w16_S256x1x128_w32

/-- The packed heads at an index: head `h` of the two is at column `128 h` of the pair. -/
theorem pair_at (z : FVec Ideal S256x512 .f32) (o : ℕ) (ho : o + 256 ≤ 512) (h0 : S256x512.Slices ![0, o] S256x128)
    (h1 : S256x512.Slices ![0, o + 128] S256x128) (r : Fin 256) (h : Fin 2) (l : Fin 128) :
    pair z o h0 h1 (ix3 r h l) = z (ix2 r ⟨o + (128 * h + l), by omega⟩) := by
  unfold pair
  fin_cases h <;> pointwise
  simp only [Nat.add_assoc]

/-- A pair of heads stored at head `H` is its part of the sixteen heads from column `base` on: it is taken from column `p` on
    of the chunk that begins at column `o`. -/
theorem piece (x : Vec Ideal S256x7168 .bf16) (W : Vec Ideal S7168x6144 .fp8e4m3) (S : Vec Ideal S1x6144 .f32) (B : Vec Ideal S1x6144 .bf16)
    (base : ℕ) (hb : base + 2048 ≤ 6144) (o p H : ℕ) (he : o + p = base + 128 * H) (hp : p + 256 ≤ 512)
    (h0 : S256x512.Slices ![0, p] S256x128) (h1 : S256x512.Slices ![0, p + 128] S256x128)
    (iw : ∀ a, (![0, o] : Fin 2 → ℕ) a + S7168x512.size a ≤ S7168x6144.size a)
    (iv : ∀ a, (![0, o] : Fin 2 → ℕ) a + S1x512.size a ≤ S1x6144.size a)
    (io : ∀ a, (![0, H, 0] : Fin 3 → ℕ) a + S256x2x128.size a ≤ S256x16x128.size a) (y : S256x2x128.Idx) :
    pair (chunk (sc x) (cd x) (View.ld W (Rect.unit (s := S7168x6144) ![0, o] S7168x512.size iw))
        (View.ld S (Rect.unit (s := S1x6144) ![0, o] S1x512.size iv)) (View.ld B (Rect.unit (s := S1x6144) ![0, o] S1x512.size iv))) p h0 h1 y
      = heads kscale kinv base hb x W S B ((Rect.unit (s := S256x16x128) ![0, H, 0] S256x2x128.size io).emb y) := by
  idx_vars y
  rw [pair_at _ _ hp, chunk_at, scale_at]
  simp only [code_at]
  have hH : H + (y1 : ℕ) < 16 := by have h : H + 2 ≤ 16 := io 1; omega
  have hy : (Rect.unit (s := S256x16x128) ![0, H, 0] S256x2x128.size io).emb (ix3 y0 y1 y2) = ix3 y0 ⟨H + y1, hH⟩ y2 := by
    blk_ext
  have hq : base + (128 * (H + (y1 : ℕ)) + (y2 : ℕ)) < 6144 := by omega
  generalize hg : (⟨p + (128 * (y1 : ℕ) + (y2 : ℕ)), _⟩ : Fin 512) = l
  have hl : o + (l : ℕ) = base + (128 * (H + (y1 : ℕ)) + (y2 : ℕ)) := by rw [← hg]; show o + (p + _) = _; omega
  have hW : ∀ k, View.ld W (Rect.unit (s := S7168x6144) ![0, o] S7168x512.size iw) (ix2 k l)
      = W (ix2 k ⟨base + (128 * (H + (y1 : ℕ)) + (y2 : ℕ)), hq⟩) := fun k =>
    View.ld_unit_apply_of W _ _ iw _ _ fun a => by
      fin_cases a
      · exact (Nat.zero_add _).symm
      · exact hl.symm
  have hS : View.ld S (Rect.unit (s := S1x6144) ![0, o] S1x512.size iv) (ix2 0 l) = S (ix2 0 ⟨base + (128 * (H + (y1 : ℕ)) + (y2 : ℕ)), hq⟩) :=
    View.ld_unit_apply_of S _ _ iv _ _ fun a => by
      fin_cases a
      · rfl
      · exact hl.symm
  have hB : View.ld B (Rect.unit (s := S1x6144) ![0, o] S1x512.size iv) (ix2 0 l) = B (ix2 0 ⟨base + (128 * (H + (y1 : ℕ)) + (y2 : ℕ)), hq⟩) :=
    View.ld_unit_apply_of B _ _ iv _ _ fun a => by
      fin_cases a
      · rfl
      · exact hl.symm
  rw [hy, hS, hB]
  simp only [hW]
  rfl

end Cert.KernelIdeal.Block
-- ==== Proof.KernelPoint.lean ====
module

public import proofs.«01_k».proof.Proof.Gen.KernelIdeal.Frame
public import proofs.«01_k».proof.Proof.KernelBlock
public import Idealize.ShloMosaic.Lib.Pipeline.ReadBack

/-!
# What one grid point leaves in the five result blocks

The stored pieces of a grid point, put together: each block is a function of the block of activations and of the whole
weights, scales and bias.
-/

@[expose] public section

set_option maxRecDepth 16384

noncomputable section

open Idealize.ShloMosaic Idealize.ShloMosaic.TcCoe Idealize.SL.Sem Cert.Scale Cert.Row

namespace Cert.KernelIdeal.Block

open Cert.KernelIdeal Cert.KernelIdeal.Gen

variable (m : (ℓ : Loc nD τ sig) → Buf (Elt Ideal) ℓ)

/-- The heads of a grid point, from column `base` on. -/
abbrev blk (c : Dev nD) (t : Fin cfg0.N) (base : ℕ) (hb : base + 2048 ≤ 6144) : Vec Ideal S256x16x128 .bf16 :=
  heads kscale kinv base hb (iblk m c 0 t) (iblk m c 1 t) (iblk m c 2 t) (iblk m c 3 t)

/-- The first two heads of the chunk of the columns from `o` on, stored at head `H`. -/
theorem lo (c : Dev nD) (t : Fin cfg0.N) (base : ℕ) (hb : base + 2048 ≤ 6144) (o H : ℕ) (he : o = base + 128 * H) (iw iv io)
    (y : S256x2x128.Idx) :
    pair (chunk (sc (iblk m c 0 t)) (cd (iblk m c 0 t)) (View.ld (iblk m c 1 t) (Rect.unit (s := S7168x6144) ![0, o] S7168x512.size iw))
        (View.ld (iblk m c 2 t) (Rect.unit (s := S1x6144) ![0, o] S1x512.size iv))
        (View.ld (iblk m c 3 t) (Rect.unit (s := S1x6144) ![0, o] S1x512.size iv))) 0 slices_S256x512_o0_0_S256x128 slices_S256x512_o0_128_S256x128 y
      = blk m c t base hb ((Rect.unit (s := S256x16x128) ![0, H, 0] S256x2x128.size io).emb y) :=
  piece (iblk m c 0 t) (iblk m c 1 t) (iblk m c 2 t) (iblk m c 3 t) base hb o 0 H he (by omega)
    slices_S256x512_o0_0_S256x128 slices_S256x512_o0_128_S256x128 iw iv io y

/-- Its last two heads, stored at head `H`. -/
theorem hi (c : Dev nD) (t : Fin cfg0.N) (base : ℕ) (hb : base + 2048 ≤ 6144) (o H : ℕ) (he : o + 256 = base + 128 * H) (iw iv io)
    (y : S256x2x128.Idx) :
    pair (chunk (sc (iblk m c 0 t)) (cd (iblk m c 0 t)) (View.ld (iblk m c 1 t) (Rect.unit (s := S7168x6144) ![0, o] S7168x512.size iw))
        (View.ld (iblk m c 2 t) (Rect.unit (s := S1x6144) ![0, o] S1x512.size iv))
        (View.ld (iblk m c 3 t) (Rect.unit (s := S1x6144) ![0, o] S1x512.size iv))) 256 slices_S256x512_o0_256_S256x128 slices_S256x512_o0_384_S256x128 y
      = blk m c t base hb ((Rect.unit (s := S256x16x128) ![0, H, 0] S256x2x128.size io).emb y) :=
  piece (iblk m c 0 t) (iblk m c 1 t) (iblk m c 2 t) (iblk m c 3 t) base hb o 256 H he (by omega)
    slices_S256x512_o0_256_S256x128 slices_S256x512_o0_384_S256x128 iw iv io y

/-- The block of the first result: the heads from column 0 on. -/
theorem point_q (c : Dev nD) (t : Fin cfg0.N) : (outsAt0 m c t).1 = blk m c t 0 (by omega) := by
  unfold outsAt0
  frame_open
  simp (disch := decide) only [↓ View.readCov_skip, ↓ View.readCov_cons_toLoadRect, ↓ View.readCov_fill]
  frame_out
  funext j
  refine View.canon_apply_of_pieces (blk m c t 0 (by omega)) _ ?_ j (View.cover_of_tiledL _ ![256, 2, 128] (by sl_kernel_rfl) j)
  exact View.PiecesOf.mem ⟨
    fun y => hi m c t 0 (by omega) 1536 14 rfl (by decide) (by decide) (by decide) y,
    fun y => lo m c t 0 (by omega) 1536 12 rfl (by decide) (by decide) (by decide) y,
    fun y => hi m c t 0 (by omega) 1024 10 rfl (by decide) (by decide) (by decide) y,
    fun y => lo m c t 0 (by omega) 1024 8 rfl (by decide) (by decide) (by decide) y,
    fun y => hi m c t 0 (by omega) 512 6 rfl (by decide) (by decide) (by decide) y,
    fun y => lo m c t 0 (by omega) 512 4 rfl (by decide) (by decide) (by decide) y,
    fun y => hi m c t 0 (by omega) 0 2 rfl (by decide) (by decide) (by decide) y,
    fun y => lo m c t 0 (by omega) 0 0 rfl (by decide) (by decide) (by decide) y, trivial⟩

/-- The block of the second result: the heads from column 2048 on. -/
theorem point_k (c : Dev nD) (t : Fin cfg0.N) : (outsAt0 m c t).2.1 = blk m c t 2048 (by omega) := by
  unfold outsAt0
  frame_open
  simp (disch := decide) only [↓ View.readCov_skip, ↓ View.readCov_cons_toLoadRect, ↓ View.readCov_fill]
  frame_out
  funext j
  refine View.canon_apply_of_pieces (blk m c t 2048 (by omega)) _ ?_ j (View.cover_of_tiledL _ ![256, 2, 128] (by sl_kernel_rfl) j)
  exact View.PiecesOf.mem ⟨
    fun y => hi m c t 2048 (by omega) 3584 14 rfl (by decide) (by decide) (by decide) y,
    fun y => lo m c t 2048 (by omega) 3584 12 rfl (by decide) (by decide) (by decide) y,
    fun y => hi m c t 2048 (by omega) 3072 10 rfl (by decide) (by decide) (by decide) y,
    fun y => lo m c t 2048 (by omega) 3072 8 rfl (by decide) (by decide) (by decide) y,
    fun y => hi m c t 2048 (by omega) 2560 6 rfl (by decide) (by decide) (by decide) y,
    fun y => lo m c t 2048 (by omega) 2560 4 rfl (by decide) (by decide) (by decide) y,
    fun y => hi m c t 2048 (by omega) 2048 2 rfl (by decide) (by decide) (by decide) y,
    fun y => lo m c t 2048 (by omega) 2048 0 rfl (by decide) (by decide) (by decide) y, trivial⟩

/-- The block of the third result: the heads from column 4096 on. -/
theorem point_v (c : Dev nD) (t : Fin cfg0.N) : (outsAt0 m c t).2.2.1 = blk m c t 4096 (by omega) := by
  unfold outsAt0
  frame_open
  simp (disch := decide) only [↓ View.readCov_skip, ↓ View.readCov_cons_toLoadRect, ↓ View.readCov_fill]
  frame_out
  funext j
  refine View.canon_apply_of_pieces (blk m c t 4096 (by omega)) _ ?_ j (View.cover_of_tiledL _ ![256, 2, 128] (by sl_kernel_rfl) j)
  exact View.PiecesOf.mem ⟨
    fun y => hi m c t 4096 (by omega) 5632 14 rfl (by decide) (by decide) (by decide) y,
    fun y => lo m c t 4096 (by omega) 5632 12 rfl (by decide) (by decide) (by decide) y,
    fun y => hi m c t 4096 (by omega) 5120 10 rfl (by decide) (by decide) (by decide) y,
    fun y => lo m c t 4096 (by omega) 5120 8 rfl (by decide) (by decide) (by decide) y,
    fun y => hi m c t 4096 (by omega) 4608 6 rfl (by decide) (by decide) (by decide) y,
    fun y => lo m c t 4096 (by omega) 4608 4 rfl (by decide) (by decide) (by decide) y,
    fun y => hi m c t 4096 (by omega) 4096 2 rfl (by decide) (by decide) (by decide) y,
    fun y => lo m c t 4096 (by omega) 4096 0 rfl (by decide) (by decide) (by decide) y, trivial⟩

/-- The block of the fourth result: the codes. -/
theorem point_codes (c : Dev nD) (t : Fin cfg0.N) : (outsAt0 m c t).2.2.2.1 = codes kinv (iblk m c 0 t) := by
  unfold outsAt0
  frame_open
  simp (disch := decide) only [↓ View.readCov_skip, ↓ View.readCov_cons_toLoadRect, ↓ View.readCov_fill]
  frame_out
  funext j
  idx_vars j
  exact code_at (iblk m c 0 t) _ _

/-- The block of the fifth result: the scales. -/
theorem point_scales (c : Dev nD) (t : Fin cfg0.N) : (outsAt0 m c t).2.2.2.2 = scales (n := 1) kscale (iblk m c 0 t) := by
  unfold outsAt0
  frame_open
  simp (disch := decide) only [↓ View.readCov_skip, ↓ View.readCov_cons_toLoadRect, ↓ View.readCov_fill]
  frame_out
  funext j
  idx_vars j
  obtain rfl : j0 = 0 := Subsingleton.elim _ _
  obtain rfl : j1 = 0 := Subsingleton.elim _ _
  have h : ∀ v : FVec Ideal S256x128 .f32, k0_pay12 v (ix3 0 0 j2) = v (ix2 j2 0) := fun v => by pointwise [k0_pay12]
  have hj : ∀ h, (⟨256 * 0 + (j2 : ℕ), h⟩ : Fin 256) = j2 := fun _ => Fin.ext (by show 256 * 0 + (j2 : ℕ) = j2; omega)
  refine (h _).trans ((scale_at (iblk m c 0 t) j2 0).trans ?_)
  exact (congrArg (fun r => kscale (amax (row (iblk m c 0 t) r)) (part (row (iblk m c 0 t) r))) (hj (by omega))).symm

end Cert.KernelIdeal.Block
-- ==== Proof.KernelArray.lean ====
module

public import proofs.«01_k».proof.Proof.KernelPoint
public import Idealize.ShloMosaic.Lib.Claim

/-!
# The kernel's five result arrays

Every grid point writes one block of each array, and the blocks make up the row functions of the whole arguments.
-/

@[expose] public section

set_option maxRecDepth 16384

noncomputable section

open Idealize.ShloMosaic Idealize.ShloMosaic.TcCoe Idealize.SL.Sem Cert.Scale Cert.Row

namespace Cert.KernelIdeal.Block

open Cert.KernelIdeal Cert.KernelIdeal.Gen

variable (m : (ℓ : Loc nD τ sig) → Buf (Elt Ideal) ℓ)

/-- The activations, every token a row. -/
def acts (c : Dev nD) : Vec Ideal S12288x7168 .bf16 :=
  shapeCast S12288x7168 (m ((c : Thread nD τ).loc main_arg0)) shapeCasts_S2x6144x7168_S12288x7168

/-- The scales of the columns, as one line. -/
def cols (c : Dev nD) : Vec Ideal S1x6144 .f32 := shapeCast S1x6144 (m ((c : Thread nD τ).loc main_arg2)) shapeCasts_S6144_S1x6144

/-- The bias, as one line. -/
def bias (c : Dev nD) : Vec Ideal S1x6144 .bf16 := shapeCast S1x6144 (m ((c : Thread nD τ).loc main_arg3)) shapeCasts_S6144_S1x6144

/-- The heads of all tokens from column `base` on. -/
abbrev all (c : Dev nD) (base : ℕ) (hb : base + 2048 ≤ 6144) : Vec Ideal S12288x16x128 .bf16 :=
  heads kscale kinv base hb (acts m c) (m ((c : Thread nD τ).loc main_arg1)) (cols m c) (bias m c)

theorem V_acts (c : Dev nD) : V m c main_v0 = acts m c := by entry_read; rfl
theorem V_cols (c : Dev nD) : V m c main_v1 = cols m c := by entry_read; rfl
theorem V_bias (c : Dev nD) : V m c main_v2 = bias m c := by entry_read; rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0, 0] := (by decide +kernel : ∀ t : Fin grid0.N, _)

/-- Row `r` of block `t` among all tokens. -/
def tok (t : Fin cfg0.N) (r : Fin 256) : Fin 12288 := ⟨256 * t.val + r.val, by have h : t.val < 48 := t.isLt; omega⟩

/-- A row of a block of activations is a row of the activations. -/
theorem row_eq (c : Dev nD) (t : Fin cfg0.N) (r : Fin 256) : row (n := 256) (iblk m c 0 t) r = row (n := 12288) (acts m c) (tok t r) := by
  funext k
  show iblk m c 0 t (ix2 r k) = acts m c (ix2 (tok t r) k)
  unfold iblk
  blk_simp
  rw [V_acts]
  blk_ext [idx0 t, tok]

/-- The block of the weights is the weights. -/
theorem blk_w (c : Dev nD) (t : Fin cfg0.N) : iblk m c 1 t = m ((c : Thread nD τ).loc main_arg1) := by
  funext j
  idx_vars j
  blk_ext [iblk, V, idx1 t]

/-- The block of the column scales is all of them. -/
theorem blk_s (c : Dev nD) (t : Fin cfg0.N) : iblk m c 2 t = cols m c := by
  funext j
  idx_vars j
  unfold iblk
  blk_simp
  rw [V_cols]
  blk_ext [idx2 t]

/-- The block of the bias is the bias. -/
theorem blk_b (c : Dev nD) (t : Fin cfg0.N) : iblk m c 3 t = bias m c := by
  funext j
  idx_vars j
  unfold iblk
  blk_simp
  rw [V_bias]
  blk_ext [idx3 t]

/-- The heads of a block are rows of all the heads. -/
theorem blk_all (c : Dev nD) (t : Fin cfg0.N) (base : ℕ) (hb : base + 2048 ≤ 6144) (r : Fin 256) (h : Fin 16) (l : Fin 128) :
    blk m c t base hb (ix3 r h l) = all m c base hb (ix3 (tok t r) h l) := by
  unfold blk
  rw [blk_w, blk_s, blk_b]
  exact heads_row kscale kinv base hb _ _ _ _ _ r (tok t r) h l (row_eq m c t r)

/-- The first result. -/
theorem arr_q (c : Dev nD) : (dats m 0 c).arrAt 4 (cfgs 0).N = all m c 0 (by omega) := by
  refine (dats m 0 c).arrAt_eq_of_covers 4 _ (by decide +kernel) fun t _ y => ?_
  blk_simp
  rw [after0_4, point_q]
  idx_vars y
  refine (blk_all m c t _ _ _ _ _).trans (congrArg (all m c 0 (by omega)) ?_)
  blk_ext [idx4 t, tok]

/-- The second result. -/
theorem arr_k (c : Dev nD) : (dats m 0 c).arrAt 5 (cfgs 0).N = all m c 2048 (by omega) := by
  refine (dats m 0 c).arrAt_eq_of_covers 5 _ (by decide +kernel) fun t _ y => ?_
  blk_simp
  rw [after0_5, point_k]
  idx_vars y
  refine (blk_all m c t _ _ _ _ _).trans (congrArg (all m c 2048 (by omega)) ?_)
  blk_ext [idx5 t, tok]

/-- The third result. -/
theorem arr_v (c : Dev nD) : (dats m 0 c).arrAt 6 (cfgs 0).N = all m c 4096 (by omega) := by
  refine (dats m 0 c).arrAt_eq_of_covers 6 _ (by decide +kernel) fun t _ y => ?_
  blk_simp
  rw [after0_6, point_v]
  idx_vars y
  refine (blk_all m c t _ _ _ _ _).trans (congrArg (all m c 4096 (by omega)) ?_)
  blk_ext [idx6 t, tok]

/-- The fourth result: the codes. -/
theorem arr_codes (c : Dev nD) : (dats m 0 c).arrAt 7 (cfgs 0).N = codes (n := 12288) kinv (acts m c) := by
  refine (dats m 0 c).arrAt_eq_of_covers 7 _ (by decide +kernel) fun t _ y => ?_
  blk_simp
  rw [after0_7, point_codes]
  idx_vars y
  refine (codes_row kinv _ _ _ (tok t _) _ (row_eq m c t _)).trans (congrArg (codes (n := 12288) kinv (acts m c)) ?_)
  blk_ext [idx7 t, tok]

/-- The fifth result: the scales. -/
theorem arr_scales (c : Dev nD) : (dats m 0 c).arrAt 8 (cfgs 0).N = scales (n := 48) kscale (acts m c) := by
  refine (dats m 0 c).arrAt_eq_of_covers 8 _ (by decide +kernel) fun t _ y => ?_
  blk_simp
  rw [after0_8, point_scales]
  idx_vars y
  obtain rfl : y0 = 0 := Subsingleton.elim _ _
  obtain rfl : y1 = 0 := Subsingleton.elim _ _
  have hr : ∀ h, (⟨256 * 0 + (y2 : ℕ), h⟩ : Fin 256) = y2 := fun _ => Fin.ext (by show 256 * 0 + (y2 : ℕ) = y2; omega)
  have hs : scales (n := 1) kscale (iblk m c 0 t) (ix3 0 0 y2)
      = kscale (amax (row (n := 256) (iblk m c 0 t) y2)) (part (row (n := 256) (iblk m c 0 t) y2)) :=
    congrArg (fun r => kscale (amax (row (n := 256) (iblk m c 0 t) r)) (part (row (n := 256) (iblk m c 0 t) r))) (hr (by omega))
  rw [hs, row_eq]
  show scales (n := 48) kscale (acts m c) (ix3 ⟨t.val, t.isLt⟩ 0 y2) = _
  refine congrArg (scales (n := 48) kscale (acts m c)) ?_
  blk_ext [idx8 t]

end Cert.KernelIdeal.Block
-- ==== Proof.RefArray.lean ====
module

public import proofs.«01_k».proof.Proof.Gen.ReferenceIdeal.Frame
public import proofs.«01_k».proof.Proof.Rows
public import Idealize.ShloMosaic.Lib.Pipeline.ValueKit
public import Idealize.ShloMosaic.Lib.Claim

/-!
# The reference's five result arrays

The reference computes all rows at once. Its arrays are the same row functions as the kernel's, with its own rule for the
scale.
-/

@[expose] public section

set_option maxRecDepth 16384

noncomputable section

open Idealize.ShloMosaic Idealize.ShloMosaic.TcCoe Idealize.SL.Sem Cert.Scale Cert.Row

namespace Cert.ReferenceIdeal.Arrays

open Cert.ReferenceIdeal Cert.ReferenceIdeal.Gen

/-- The exponent's arithmetic on a column `y` of 448th parts. -/
def expo (y : FVec Ideal S12288x1 .f32) : FVec Ideal S12288x1 .f32 :=
  select (cmpf .olt y (broadcast S12288x1 (Scalar.ofBits .f32 0x00800000#32))) (broadcast S12288x1 (Scalar.ofBits .f32 0x00000000#32))
    (addf (floor (divf (log y) (log (broadcast S12288x1 (Scalar.ofBits .f32 0x40000000#32)))))
      (broadcast S12288x1 (Scalar.ofBits .f32 0x3F800000#32)))

theorem expo_at (y : FVec Ideal S12288x1 .f32) (j : S12288x1.Idx) : expo y j = rexp (y j) := rfl

theorem mul_at (v : FVec Ideal S12288x1 .f32) (j : S12288x1.Idx) :
    mulf v (broadcast S12288x1 (Scalar.ofBits .f32 0x3B124925#32)) j = v j * Ideal.ofBits .f32 0x3B124925#32 := rfl

theorem ext_at (x : Vec Ideal S12288x7168 .bf16) (r : Fin 12288) (k : Fin 7168) : k0_pay5 x (ix2 r k) = x (ix2 r k) := by
  pointwise [k0_pay5]

/-- The largest magnitude of every row, as a column. -/
def top (x : Vec Ideal S12288x7168 .bf16) : FVec Ideal S12288x1 .f32 :=
  shapeCast S12288x1 (multiReduction .maximumf [1] S12288 (absf (k0_pay5 x)) 0xFF800000#32 reduces_S12288x7168_S12288 (.inl rfl) rfl)
    shapeCasts_S12288_S12288x1

theorem top_at (x : Vec Ideal S12288x7168 .bf16) (r : Fin 12288) : top x (ix2 r 0) = amax (row x r) := by
  have hc : ∀ v : FVec Ideal S12288 .f32, shapeCast S12288x1 v shapeCasts_S12288_S12288x1 (ix2 r 0) = v (ix1 r) := fun v => by pointwise
  refine (hc _).trans ((max_apply (absf (k0_pay5 x)) _ _ _ r).trans ?_)
  unfold amax
  refine congrArg (fun g => Finset.univ.fold max ⊥ g) (funext fun k => ?_)
  show FloatOps.absf (k0_pay5 x (ix2 r k)) = _
  rw [ext_at]

theorem exp_eq (x : Vec Ideal S12288x7168 .bf16) :
    k0_pay6 x = expo (mulf (top x) (broadcast S12288x1 (Scalar.ofBits .f32 0x3B124925#32))) := rfl

/-- The exponent of a row. -/
theorem exp_at (x : Vec Ideal S12288x7168 .bf16) (r : Fin 12288) : k0_pay6 x (ix2 r 0) = rexp (part (row x r)) := by
  unfold part
  rw [exp_eq, expo_at, mul_at, top_at]

theorem pow_at (e : FVec Ideal S12288x1 .f32) (j : S12288x1.Idx) : exp2 e j = Ideal.exp2 (e j) := rfl

theorem pow_eq (x : Vec Ideal S12288x7168 .bf16) : k0_pay7 x = exp2 (k0_pay6 x) := rfl

/-- The scale of a row. -/
theorem scale_at (x : Vec Ideal S12288x7168 .bf16) (r : Fin 12288) : k0_pay7 x (ix2 r 0) = rscale (part (row x r)) := by
  unfold rscale
  rw [pow_eq, pow_at, exp_at]

/-- The inverse scales, as a column. -/
def inv (e : FVec Ideal S12288x1 .f32) : FVec Ideal S12288x1 .f32 := exp2 (subf (broadcast S12288x1 (Scalar.ofBits .f32 0x00000000#32)) e)

theorem inv_at (e : FVec Ideal S12288x1 .f32) (j : S12288x1.Idx) : inv e j = Ideal.exp2 (Ideal.ofBits .f32 0x00000000#32 - e j) := rfl

/-- The codes, from the activations `v` and the inverse scales `i`. -/
def quant (v : FVec Ideal S12288x7168 .f32) (i : FVec Ideal S12288x1 .f32) : FVec Ideal S12288x7168 .fp8e4m3 :=
  truncf .fp8e4m3 (minimumf (broadcast S12288x7168 (Scalar.ofBits .f32 0x43E00000#32))
    (maximumf (broadcast S12288x7168 (Scalar.ofBits .f32 0xC3E00000#32)) (mulf v (broadcastTo S12288x7168 i broadcasts_S12288x1_S12288x7168))))
    bitsLt_fp8e4m3_f32

theorem quant_at (v : FVec Ideal S12288x7168 .f32) (i : FVec Ideal S12288x1 .f32) (r : Fin 12288) (k : Fin 7168) :
    quant v i (ix2 r k) = code (i (ix2 r 0)) (v (ix2 r k)) := by
  unfold quant code
  pointwise

theorem code_eq (x : Vec Ideal S12288x7168 .bf16) : k0_pay8 x = quant (k0_pay5 x) (inv (k0_pay6 x)) := rfl

/-- The codes of a row. -/
theorem code_at (x : Vec Ideal S12288x7168 .bf16) (r : Fin 12288) (k : Fin 7168) :
    k0_pay8 x (ix2 r k) = code (rinv (part (row x r))) (x (ix2 r k)) := by
  rw [code_eq, quant_at, inv_at, exp_at, ext_at]
  rfl

/-- The product with the row's scale. -/
theorem prod_at (x : Vec Ideal S12288x7168 .bf16) (w : Vec Ideal S7168x6144 .fp8e4m3) (r : Fin 12288) (k : Fin 6144) :
    k0_pay10 x w (ix2 r k) = (∑ i : Fin 7168, code (rinv (part (row x r))) (x (ix2 r i)) * w (ix2 i k)) * rscale (part (row x r)) := by
  have h : k0_pay10 x w (ix2 r k) = (∑ i : Fin 7168, k0_pay8 x (ix2 r i) * w (ix2 i k)) * k0_pay7 x (ix2 r 0) := by
    pointwise [k0_pay10]
  rw [h, scale_at]
  simp only [code_at]

/-- The heads from column `base` on, from what a head reads of the product. -/
theorem heads_eq (x : Vec Ideal S12288x7168 .bf16) (w : Vec Ideal S7168x6144 .fp8e4m3) (s : Vec Ideal S1x6144 .f32) (b : Vec Ideal S1x6144 .bf16)
    (base : ℕ) (hb : base + 2048 ≤ 6144) (v : FVec Ideal S12288x16x128 .bf16)
    (hv : ∀ (r : Fin 12288) (h : Fin 16) (l : Fin 128) (e : base + (h.val * 128 + l.val) < 6144),
      v (ix3 r h l) = k0_pay10 x w (ix2 r ⟨base + (h.val * 128 + l.val), e⟩) * s (ix2 0 ⟨base + (h.val * 128 + l.val), e⟩)
        + b (ix2 0 ⟨base + (h.val * 128 + l.val), e⟩)) :
    v = heads (fun _ y => rscale y) (fun _ y => rinv y) (n := 12288) base hb x w s b := by
  funext j
  idx_vars j
  have hj : ∀ h h', (⟨base + ((j1 : ℕ) * 128 + (j2 : ℕ)), h⟩ : Fin 6144) = ⟨base + (128 * (j1 : ℕ) + (j2 : ℕ)), h'⟩ := fun _ _ =>
    Fin.ext (by show base + ((j1 : ℕ) * 128 + (j2 : ℕ)) = base + (128 * (j1 : ℕ) + (j2 : ℕ)); omega)
  rw [hv j0 j1 j2 (by omega), hj (by omega) (by omega), prod_at]
  rfl

theorem q_eq (x : Vec Ideal S12288x7168 .bf16) (w : Vec Ideal S7168x6144 .fp8e4m3) (s : Vec Ideal S1x6144 .f32) (b : Vec Ideal S1x6144 .bf16) :
    k0_pay2 (k0_pay10 x w) s b = heads (fun _ y => rscale y) (fun _ y => rinv y) (n := 12288) 0 (by omega) x w s b :=
  heads_eq x w s b 0 (by omega) _ fun r h l e => by
    simp only [Nat.zero_add]
    pointwise [k0_pay2, k0_pay1]

theorem k_eq (x : Vec Ideal S12288x7168 .bf16) (w : Vec Ideal S7168x6144 .fp8e4m3) (s : Vec Ideal S1x6144 .f32) (b : Vec Ideal S1x6144 .bf16) :
    k0_pay3 (k0_pay10 x w) s b = heads (fun _ y => rscale y) (fun _ y => rinv y) (n := 12288) 2048 (by omega) x w s b :=
  heads_eq x w s b 2048 (by omega) _ fun r h l e => by
    pointwise [k0_pay3, k0_pay1]

theorem v_eq (x : Vec Ideal S12288x7168 .bf16) (w : Vec Ideal S7168x6144 .fp8e4m3) (s : Vec Ideal S1x6144 .f32) (b : Vec Ideal S1x6144 .bf16) :
    k0_pay4 (k0_pay10 x w) s b = heads (fun _ y => rscale y) (fun _ y => rinv y) (n := 12288) 4096 (by omega) x w s b :=
  heads_eq x w s b 4096 (by omega) _ fun r h l e => by
    pointwise [k0_pay4, k0_pay1]

theorem codes_eq (x : Vec Ideal S12288x7168 .bf16) : k0_pay8 x = codes (n := 12288) (fun _ y => rinv y) x := by
  funext j
  idx_vars j
  rw [code_at]
  rfl

theorem scales_eq (x : Vec Ideal S12288x7168 .bf16) : k0_pay9 x = scales (n := 48) (fun _ y => rscale y) x := by
  funext j
  idx_vars j
  obtain rfl : j1 = 0 := Subsingleton.elim _ _
  have h : k0_pay9 x (ix3 j0 0 j2) = k0_pay7 x (ix2 ⟨j0 * 256 + j2, by omega⟩ 0) := by pointwise [k0_pay9]
  have hr : ∀ h h', (⟨(j0 : ℕ) * 256 + (j2 : ℕ), h⟩ : Fin 12288) = ⟨256 * (j0 : ℕ) + (j2 : ℕ), h'⟩ := fun _ _ =>
    Fin.ext (by show (j0 : ℕ) * 256 + (j2 : ℕ) = 256 * (j0 : ℕ) + (j2 : ℕ); omega)
  rw [h, scale_at]
  exact congrArg (fun r => rscale (part (row (n := 12288) x r))) (hr (by omega) (by omega))

variable (m : (ℓ : Loc nD τ sig) → Buf (Elt Ideal) ℓ)

/-- The activations, every token a row. -/
def acts (c : Dev nD) : Vec Ideal S12288x7168 .bf16 :=
  shapeCast S12288x7168 (m ((c : Thread nD τ).loc main_arg0)) shapeCasts_S2x6144x7168_S12288x7168

/-- The scales of the columns, as one line. -/
def cols (c : Dev nD) : Vec Ideal S1x6144 .f32 := shapeCast S1x6144 (m ((c : Thread nD τ).loc main_arg2)) shapeCasts_S6144_S1x6144

/-- The bias, as one line. -/
def bias (c : Dev nD) : Vec Ideal S1x6144 .bf16 := shapeCast S1x6144 (m ((c : Thread nD τ).loc main_arg3)) shapeCasts_S6144_S1x6144

/-- The heads of all tokens from column `base` on. -/
abbrev all (c : Dev nD) (base : ℕ) (hb : base + 2048 ≤ 6144) : Vec Ideal S12288x16x128 .bf16 :=
  heads (fun _ y => rscale y) (fun _ y => rinv y) (n := 12288) base hb (acts m c) (m ((c : Thread nD τ).loc main_arg1)) (cols m c) (bias m c)

theorem V_acts (c : Dev nD) : V m c main_v0 = acts m c := by entry_read; rfl
theorem V_cols (c : Dev nD) : V m c main_v1 = cols m c := by entry_read; rfl
theorem V_bias (c : Dev nD) : V m c main_v2 = bias m c := by entry_read; rfl

theorem idx0 : win0_0.index t0_0 = ![0, 0] := by decide +kernel
theorem idx1 : win0_1.index t0_0 = ![0, 0] := by decide +kernel
theorem idx2 : win0_2.index t0_0 = ![0, 0] := by decide +kernel
theorem idx3 : win0_3.index t0_0 = ![0, 0] := by decide +kernel

/-- The one block of the activations is all of them. -/
theorem blk_x (c : Dev nD) : iblk m c 0 t0_0 = acts m c := by
  funext j
  idx_vars j
  unfold iblk
  blk_simp
  rw [V_acts]
  blk_ext [idx0]

/-- The one block of the weights is the weights. -/
theorem blk_w (c : Dev nD) : iblk m c 1 t0_0 = m ((c : Thread nD τ).loc main_arg1) := by
  funext j
  idx_vars j
  blk_ext [iblk, V, idx1]

/-- The one block of the column scales is all of them. -/
theorem blk_s (c : Dev nD) : iblk m c 2 t0_0 = cols m c := by
  funext j
  idx_vars j
  unfold iblk
  blk_simp
  rw [V_cols]
  blk_ext [idx2]

/-- The one block of the bias is the bias. -/
theorem blk_b (c : Dev nD) : iblk m c 3 t0_0 = bias m c := by
  funext j
  idx_vars j
  unfold iblk
  blk_simp
  rw [V_bias]
  blk_ext [idx3]

/-- The first result. -/
theorem arr_q (c : Dev nD) : (dats m 0 c).arrAt 4 (cfgs 0).N = all m c 0 (by omega) := by
  refine (dats m 0 c).arrAt_eq_of_after_last 4 t0_0 (by decide +kernel) _ fun j => ?_
  blk_simp
  rw [after0_4]
  frame_open
  unfold k0_pay11
  frame_out
  rw [blk_x, blk_w, blk_s, blk_b, q_eq]

/-- The second result. -/
theorem arr_k (c : Dev nD) : (dats m 0 c).arrAt 5 (cfgs 0).N = all m c 2048 (by omega) := by
  refine (dats m 0 c).arrAt_eq_of_after_last 5 t0_0 (by decide +kernel) _ fun j => ?_
  blk_simp
  rw [after0_5]
  frame_open
  unfold k0_pay11
  frame_out
  rw [blk_x, blk_w, blk_s, blk_b, k_eq]

/-- The third result. -/
theorem arr_v (c : Dev nD) : (dats m 0 c).arrAt 6 (cfgs 0).N = all m c 4096 (by omega) := by
  refine (dats m 0 c).arrAt_eq_of_after_last 6 t0_0 (by decide +kernel) _ fun j => ?_
  blk_simp
  rw [after0_6]
  frame_open
  unfold k0_pay11
  frame_out
  rw [blk_x, blk_w, blk_s, blk_b, v_eq]

/-- The fourth result: the codes. -/
theorem arr_codes (c : Dev nD) : (dats m 0 c).arrAt 7 (cfgs 0).N = codes (n := 12288) (fun _ y => rinv y) (acts m c) := by
  refine (dats m 0 c).arrAt_eq_of_after_last 7 t0_0 (by decide +kernel) _ fun j => ?_
  blk_simp
  rw [after0_7]
  frame_open
  frame_out
  rw [blk_x, codes_eq]

/-- The fifth result: the scales. -/
theorem arr_scales (c : Dev nD) : (dats m 0 c).arrAt 8 (cfgs 0).N = scales (n := 48) (fun _ y => rscale y) (acts m c) := by
  refine (dats m 0 c).arrAt_eq_of_after_last 8 t0_0 (by decide +kernel) _ fun j => ?_
  blk_simp
  rw [after0_8]
  frame_open
  frame_out
  rw [blk_x, scales_eq]

end Cert.ReferenceIdeal.Arrays
-- ==== Proof.Equation.lean ====
module

public import proofs.«01_k».proof.Defs
public import proofs.«01_k».proof.Proof.Gen.Pre_finite
public import proofs.«01_k».proof.Proof.Bounds
public import proofs.«01_k».proof.Proof.KernelArray
public import proofs.«01_k».proof.Proof.RefArray
public import Idealize.ShloMosaic.Lib.ReduceAll

/-!
# Kernel and reference, array by array

From memories that agree on the arguments, with finite activations, the reference's five arrays are the kernel's.
-/

@[expose] public section

set_option maxRecDepth 16384

noncomputable section

open Idealize.ShloMosaic Idealize.ShloMosaic.TcCoe Idealize.SL.Sem Cert.Scale Cert.Row

namespace Cert.Equation

/-- What the precondition says of one element of the activations. -/
theorem fits_of_pre [Cert.Pre_finite.Facts] (x : FVec Ideal Cert.Pre_finite.S2x6144x7168 .bf16)
    (w : FVec Ideal Cert.Pre_finite.S7168x6144 .fp8e4m3) (s : FVec Ideal Cert.Pre_finite.S6144 .f32)
    (b : FVec Ideal Cert.Pre_finite.S6144 .bf16) (h : Cert.Pre_finite.fn (F := Ideal) x w s b = fun _ => 1#1)
    (i : Cert.Pre_finite.S2x6144x7168.Idx) :
    FloatOps.absf (F := Ideal) (φ := .f32) (x i) ≤ Ideal.ofBits .f32 0x7F7F0000#32 := by
  haveI : Subsingleton Cert.Pre_finite.S_.Idx := ⟨fun a b => funext fun k => k.elim0⟩
  have e := congrFun h (fun k => k.elim0)
  dsimp only [Cert.Pre_finite.fn] at e
  have e1 := Host.reduce_andi_all _ _ _ _ _ e i
  have e2 : BitVec.ofBool (decide (FloatOps.absf (F := Ideal) (φ := .f32) (x i) ≤ Ideal.ofBits .f32 0x7F7F0000#32)) = 1#1 := e1
  by_contra hn
  rw [decide_eq_false hn] at e2
  exact absurd e2 (by decide)

variable (m : (ℓ : Loc Cert.KernelIdeal.nD Cert.KernelIdeal.τ Cert.KernelIdeal.sig) → Buf (Elt Ideal) ℓ)

/-- Under the precondition every row of the activations fits. -/
theorem rows_fit (h : Cert.Pre_KernelIdeal_finite m) (c : Dev Cert.KernelIdeal.nD) (r : Fin 12288) :
    Fits (row (Cert.KernelIdeal.Block.acts m c) r) := fun k => by
  show FloatOps.absf (F := Ideal) (φ := .f32) (Cert.KernelIdeal.Block.acts m c (ix2 r k)) ≤ _
  unfold Cert.KernelIdeal.Block.acts
  exact fits_of_pre _ _ _ _ (h c) _

variable (m' : (ℓ : Loc Cert.ReferenceIdeal.nD Cert.ReferenceIdeal.τ Cert.ReferenceIdeal.sig) → Buf (Elt Ideal) ℓ)

/-- The two memories agree on the four arguments. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m'}

/-- The activations as rows are the same on both sides. -/
theorem acts_eq {c : Dev Cert.KernelIdeal.nD} (h : Agree m m' c) : Cert.ReferenceIdeal.Arrays.acts m' c = Cert.KernelIdeal.Block.acts m c := by
  unfold Cert.ReferenceIdeal.Arrays.acts Cert.KernelIdeal.Block.acts
  rw [h.1]

/-- So are the columns' scales. -/
theorem cols_eq {c : Dev Cert.KernelIdeal.nD} (h : Agree m m' c) : Cert.ReferenceIdeal.Arrays.cols m' c = Cert.KernelIdeal.Block.cols m c := by
  unfold Cert.ReferenceIdeal.Arrays.cols Cert.KernelIdeal.Block.cols
  rw [h.2.2.1]

/-- So is the bias. -/
theorem bias_eq {c : Dev Cert.KernelIdeal.nD} (h : Agree m m' c) : Cert.ReferenceIdeal.Arrays.bias m' c = Cert.KernelIdeal.Block.bias m c := by
  unfold Cert.ReferenceIdeal.Arrays.bias Cert.KernelIdeal.Block.bias
  rw [h.2.2.2]

/-- The heads from any column on are the same on both sides. -/
theorem all_eq (hp : Cert.Pre_KernelIdeal_finite m) {c : Dev Cert.KernelIdeal.nD} (h : Agree m m' c) (base : ℕ) (hb : base + 2048 ≤ 6144) :
    Cert.ReferenceIdeal.Arrays.all m' c base hb = Cert.KernelIdeal.Block.all m c base hb := by
  unfold Cert.ReferenceIdeal.Arrays.all Cert.KernelIdeal.Block.all
  rw [acts_eq h, cols_eq h, bias_eq h, h.2.1]
  exact (heads_eq base hb _ _ _ _ (rows_fit m hp c)).symm

/-- The first result. -/
theorem q_eq (hp : Cert.Pre_KernelIdeal_finite m) {c : Dev Cert.KernelIdeal.nD} (h : Agree m m' c) :
    (Cert.ReferenceIdeal.Gen.dats m' 0 c).arrAt 4 (Cert.ReferenceIdeal.cfgs 0).N
      = (Cert.KernelIdeal.Gen.dats m 0 c).arrAt 4 (Cert.KernelIdeal.cfgs 0).N := by
  rw [Cert.ReferenceIdeal.Arrays.arr_q, Cert.KernelIdeal.Block.arr_q]
  exact all_eq hp h _ _

/-- The second result. -/
theorem k_eq (hp : Cert.Pre_KernelIdeal_finite m) {c : Dev Cert.KernelIdeal.nD} (h : Agree m m' c) :
    (Cert.ReferenceIdeal.Gen.dats m' 0 c).arrAt 5 (Cert.ReferenceIdeal.cfgs 0).N
      = (Cert.KernelIdeal.Gen.dats m 0 c).arrAt 5 (Cert.KernelIdeal.cfgs 0).N := by
  rw [Cert.ReferenceIdeal.Arrays.arr_k, Cert.KernelIdeal.Block.arr_k]
  exact all_eq hp h _ _

/-- The third result. -/
theorem v_eq (hp : Cert.Pre_KernelIdeal_finite m) {c : Dev Cert.KernelIdeal.nD} (h : Agree m m' c) :
    (Cert.ReferenceIdeal.Gen.dats m' 0 c).arrAt 6 (Cert.ReferenceIdeal.cfgs 0).N
      = (Cert.KernelIdeal.Gen.dats m 0 c).arrAt 6 (Cert.KernelIdeal.cfgs 0).N := by
  rw [Cert.ReferenceIdeal.Arrays.arr_v, Cert.KernelIdeal.Block.arr_v]
  exact all_eq hp h _ _

/-- The fourth result: the codes. -/
theorem codes_arr_eq (hp : Cert.Pre_KernelIdeal_finite m) {c : Dev Cert.KernelIdeal.nD} (h : Agree m m' c) :
    (Cert.ReferenceIdeal.Gen.dats m' 0 c).arrAt 7 (Cert.ReferenceIdeal.cfgs 0).N
      = (Cert.KernelIdeal.Gen.dats m 0 c).arrAt 7 (Cert.KernelIdeal.cfgs 0).N := by
  rw [Cert.ReferenceIdeal.Arrays.arr_codes, Cert.KernelIdeal.Block.arr_codes, acts_eq h]
  exact (codes_eq _ (rows_fit m hp c)).symm

/-- The fifth result: the scales. -/
theorem scales_arr_eq (hp : Cert.Pre_KernelIdeal_finite m) {c : Dev Cert.KernelIdeal.nD} (h : Agree m m' c) :
    (Cert.ReferenceIdeal.Gen.dats m' 0 c).arrAt 8 (Cert.ReferenceIdeal.cfgs 0).N
      = (Cert.KernelIdeal.Gen.dats m 0 c).arrAt 8 (Cert.KernelIdeal.cfgs 0).N := by
  rw [Cert.ReferenceIdeal.Arrays.arr_scales, Cert.KernelIdeal.Block.arr_scales, acts_eq h]
  exact (scales_eq (n := 48) _ (rows_fit m hp c)).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Equation
public import Idealize.ShloMosaic.Lib.Bf16Pair
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference, idealized, end with equal results on finite activations. -/
theorem algebraic : Cert.algebraic_KernelIdeal_ReferenceIdeal_pre_finite := by
  pair_intro
  · run_from Cert.KernelIdeal.Gen.run_main m g
  · run_from Cert.ReferenceIdeal.Gen.run_main m' g'
    · exact Cert.Equation.q_eq hpre (hagree c)
    · exact Cert.Equation.k_eq hpre (hagree c)
    · exact Cert.Equation.v_eq hpre (hagree c)
    · exact Cert.Equation.codes_arr_eq hpre (hagree c)
    · exact Cert.Equation.scales_arr_eq hpre (hagree c)

/-- Every claim. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  ⟨IdealRules.bf16_pair.packStatement _, IdealRules.bf16_pair.statement _ _⟩,
  algebraic⟩

end Cert.Proof

end
